-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x14336 : Shape := ⟨3, ![2, 128, 14336]⟩
abbrev S32x224x2x8x128 : Shape := ⟨5, ![32, 224, 2, 8, 128]⟩
abbrev S4096 : Shape := ⟨1, ![4096]⟩
abbrev S256x14336 : Shape := ⟨2, ![256, 14336]⟩
abbrev S256x2048 : Shape := ⟨2, ![256, 2048]⟩
abbrev S256x256 : Shape := ⟨2, ![256, 256]⟩
abbrev S32x3584x128 : Shape := ⟨3, ![32, 3584, 128]⟩
abbrev S1x4096 : Shape := ⟨2, ![1, 4096]⟩
abbrev S256x4096 : Shape := ⟨2, ![256, 4096]⟩
abbrev S2x3584x128 : Shape := ⟨3, ![2, 3584, 128]⟩
abbrev S1x256 : Shape := ⟨2, ![1, 256]⟩
abbrev S1x1792x128 : Shape := ⟨3, ![1, 1792, 128]⟩
abbrev S1792x128 : Shape := ⟨2, ![1792, 128]⟩
abbrev S1792x256 : Shape := ⟨2, ![1792, 256]⟩
abbrev S7168x256 : Shape := ⟨2, ![7168, 256]⟩
abbrev S256x7168 : Shape := ⟨2, ![256, 7168]⟩
abbrev S2x128x4096 : Shape := ⟨3, ![2, 128, 4096]⟩

abbrev nBuf : Space → Nat
  | .hbm => 13
  | .vmem => 15
  | .smem => 0
  | _ => 0

abbrev bufTy : (tb : Table) → Fin (tcTables nBuf tb) → BufTy
  | .hbm, ⟨0, _⟩ => ⟨S2x128x14336, .bf16⟩
  | .hbm, ⟨1, _⟩ => ⟨S32x224x2x8x128, .i32⟩
  | .hbm, ⟨2, _⟩ => ⟨S32x224x2x8x128, .i32⟩
  | .hbm, ⟨3, _⟩ => ⟨S4096, .f32⟩
  | .hbm, ⟨4, _⟩ => ⟨S4096, .f32⟩
  | .hbm, ⟨5, _⟩ => ⟨S256x14336, .bf16⟩
  | .hbm, ⟨6, _⟩ => ⟨S256x14336, .bf16⟩
  | .hbm, ⟨7, _⟩ => ⟨S32x3584x128, .i32⟩
  | .hbm, ⟨8, _⟩ => ⟨S32x3584x128, .i32⟩
  | .hbm, ⟨9, _⟩ => ⟨S1x4096, .f32⟩
  | .hbm, ⟨10, _⟩ => ⟨S1x4096, .f32⟩
  | .hbm, ⟨11, _⟩ => ⟨S256x4096, .bf16⟩
  | .hbm, ⟨12, _⟩ => ⟨S2x128x4096, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x14336, .bf16⟩
  | .local _ .vmem, ⟨5, _⟩ => ⟨S2x3584x128, .i32⟩
  | .local _ .vmem, ⟨6, _⟩ => ⟨S2x3584x128, .i32⟩
  | .local _ .vmem, ⟨7, _⟩ => ⟨S2x3584x128, .i32⟩
  | .local _ .vmem, ⟨8, _⟩ => ⟨S2x3584x128, .i32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S256x256, .bf16⟩
  | .local _ .vmem, ⟨14, _⟩ => ⟨S256x256, .bf16⟩
  | _, _ => ⟨S2x128x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S256x14336 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2x3584x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x3584x128 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S2x128x14336 : Shape := ⟨3, ![2, 128, 14336]⟩
abbrev S32x224x2x8x128 : Shape := ⟨5, ![32, 224, 2, 8, 128]⟩
abbrev S4096 : Shape := ⟨1, ![4096]⟩
abbrev S256x14336 : Shape := ⟨2, ![256, 14336]⟩
abbrev S224x8x2x32x128 : Shape := ⟨5, ![224, 8, 2, 32, 128]⟩
abbrev S3584x4096 : Shape := ⟨2, ![3584, 4096]⟩
abbrev S1x4096 : Shape := ⟨2, ![1, 4096]⟩
abbrev S256x4096 : Shape := ⟨2, ![256, 4096]⟩
abbrev S14336x4096 : Shape := ⟨2, ![14336, 4096]⟩
abbrev S2x128x4096 : Shape := ⟨3, ![2, 128, 4096]⟩

abbrev nBuf : Space → Nat
  | .hbm => 14
  | .vmem => 6
  | .smem => 0
  | _ => 0

abbrev bufTy : (tb : Table) → Fin (tcTables nBuf tb) → BufTy
  | .hbm, ⟨0, _⟩ => ⟨S2x128x14336, .bf16⟩
  | .hbm, ⟨1, _⟩ => ⟨S32x224x2x8x128, .i32⟩
  | .hbm, ⟨2, _⟩ => ⟨S32x224x2x8x128, .i32⟩
  | .hbm, ⟨3, _⟩ => ⟨S4096, .f32⟩
  | .hbm, ⟨4, _⟩ => ⟨S4096, .f32⟩
  | .hbm, ⟨5, _⟩ => ⟨S256x14336, .bf16⟩
  | .hbm, ⟨6, _⟩ => ⟨S224x8x2x32x128, .i32⟩
  | .hbm, ⟨7, _⟩ => ⟨S3584x4096, .i32⟩
  | .hbm, ⟨8, _⟩ => ⟨S224x8x2x32x128, .i32⟩
  | .hbm, ⟨9, _⟩ => ⟨S3584x4096, .i32⟩
  | .hbm, ⟨10, _⟩ => ⟨S1x4096, .f32⟩
  | .hbm, ⟨11, _⟩ => ⟨S1x4096, .f32⟩
  | .hbm, ⟨12, _⟩ => ⟨S256x4096, .bf16⟩
  | .hbm, ⟨13, _⟩ => ⟨S2x128x4096, .bf16⟩
  | .local _ .vmem, ⟨0, _⟩ => ⟨S256x14336, .bf16⟩
  | .local _ .vmem, ⟨1, _⟩ => ⟨S3584x4096, .i32⟩
  | .local _ .vmem, ⟨2, _⟩ => ⟨S3584x4096, .i32⟩
  | .local _ .vmem, ⟨3, _⟩ => ⟨S1x4096, .f32⟩
  | .local _ .vmem, ⟨4, _⟩ => ⟨S1x4096, .f32⟩
  | .local _ .vmem, ⟨5, _⟩ => ⟨S256x4096, .bf16⟩
  | _, _ => ⟨S2x128x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x14336 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x4096 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Gated.lean ====
/-
  The value one element of the gated projection has, over extended reals, and the facts of words and sums that both
  programs' elements are brought to it by. Nothing here is about either program: the shapes are general where they can be.
-/
module

public import Idealize.ShloMosaic.PureOps.Ideal
public import Idealize.ShloMosaic.Lib.BitcastPair
public import Idealize.ShloMosaic.Lib.MatmulPlain
public import Idealize.ShloMosaic.Lib.ValueIdx
public import Idealize.ShloMosaic.Lib.Pipeline.Value

@[expose] public section

noncomputable section

namespace Cert.Proof.Gated

open Idealize.ShloMosaic Idealize.ShloMosaic.ValueIdx
open scoped BigOperators

/-- Thirty-two-bit words read at eight bits, rank 2: row `k` of a column is byte `k % 4` of word `k / 4`. -/
theorem bitcast_32_8_ix2 {R r n : ℕ} (x : (⟨2, ![r, n]⟩ : Shape).Idx → BitVec 32)
    (h : (⟨2, ![r, n]⟩ : Shape).Bitcasts 32 ⟨2, ![R, n]⟩ 8) (k : Fin R) (l : Fin n) (q : Fin r) (hq : q.val = k.val / 4) :
    bitcast ⟨2, ![R, n]⟩ 8 x h (ix2 k l) = (x (ix2 q l)).extractLsb' (8 * (k.val % 4)) 8 := by
  apply BitVec.eq_of_getLsbD_eq
  intro i hi
  rw [bitcast_getLsbD x h _ i hi (by decide), BitVec.getLsbD_extractLsb']
  have er : Shape.row (⟨2, ![R, n]⟩ : Shape) (ix2 k l) = k.val := rfl
  have eq : (Shape.row (⟨2, ![R, n]⟩ : Shape) (ix2 k l) * 8 + i) % 32 = 8 * (k.val % 4) + i := by rw [er]; omega
  have ei : h.srcIdx (ix2 k l) ((Shape.row (⟨2, ![R, n]⟩ : Shape) (ix2 k l) * 8 + i) / 32)
      (fun a ha => (Nat.div_lt_iff_lt_mul (by decide)).2 (h.pos_lt (ix2 k l) i hi a ha)) = ix2 q l := by
    funext c
    match c with
    | ⟨0, _⟩ => exact Fin.ext ((h.srcIdx_row _ _ _ ⟨0, Nat.zero_lt_two⟩ rfl).trans (by rw [er, hq]; omega))
    | ⟨1, _⟩ => exact Fin.ext (h.srcIdx_other _ _ _ ⟨1, Nat.one_lt_two⟩ (by show ¬ 1 + 2 = 2; omega))
  rw [eq, ei]
  simp [hi]

/-- The weight a word's byte `j` spells. -/
def byteVal (w : BitVec 32) (j : ℕ) : EReal := Ideal.ofBits .fp8e4m3 (w.extractLsb' (8 * j) 8)

/-- A column of words as the weights it holds, four to a word. -/
def weight (w : Fin 3584 → BitVec 32) (k : Fin 14336) : EReal := byteVal (w ⟨k.val / 4, by omega⟩) (k.val % 4)

/-- The projection of a row of `x` on a column of weights, scaled. -/
def proj (x : Fin 14336 → EReal) (w : Fin 3584 → BitVec 32) (s : EReal) : EReal :=
  (∑ k : Fin 14336, x k * weight w k) * s

/-- One element of the result: the gate's projection through `silu`, times the up projection. -/
def gated (x : Fin 14336 → EReal) (wg wu : Fin 3584 → BitVec 32) (sg su : EReal) : EReal :=
  proj x wg sg * Ideal.logistic (proj x wg sg) * proj x wu su

/-- One result from words kept in blocks of 128 columns: at row `i`, column `o`, the gated projection of row `i`
    of `x` on lane `o % 128` of block `o / 128`. -/
def blocks (x : (⟨2, ![256, 14336]⟩ : Shape).Idx → EReal) (wg wu : (⟨3, ![32, 3584, 128]⟩ : Shape).Idx → BitVec 32)
    (sg su : (⟨2, ![1, 4096]⟩ : Shape).Idx → EReal) (j : (⟨2, ![256, 4096]⟩ : Shape).Idx) : EReal :=
  gated (fun k => x (ix2 (j 0) k))
    (fun q => wg (ix3 ⟨(j 1).val / 128, by have := (j 1).isLt; change (j 1).val < 4096 at this; omega⟩ q ⟨(j 1).val % 128, by omega⟩))
    (fun q => wu (ix3 ⟨(j 1).val / 128, by have := (j 1).isLt; change (j 1).val < 4096 at this; omega⟩ q ⟨(j 1).val % 128, by omega⟩))
    (sg (ix2 0 (j 1))) (su (ix2 0 (j 1)))

/-- Column `o` of the words a group's two halves at a time: row `q` is half `q % 2` of group `q / 2`. -/
def column (w : (⟨5, ![32, 224, 2, 8, 128]⟩ : Shape).Idx → BitVec 32) (o : Fin 4096) (q : Fin 3584) : BitVec 32 :=
  w (ix5 ⟨o.val / 128, by omega⟩ ⟨q.val / 16, by omega⟩ ⟨q.val % 2, by omega⟩ ⟨q.val / 2 % 8, by omega⟩ ⟨o.val % 128, by omega⟩)

/-- The result: at batch `b`, token `s`, column `o`, the gated projection of that row of `x` on column `o`. -/
def result (x : (⟨3, ![2, 128, 14336]⟩ : Shape).Idx → EReal) (wg wu : (⟨5, ![32, 224, 2, 8, 128]⟩ : Shape).Idx → BitVec 32)
    (sg su : (⟨1, ![4096]⟩ : Shape).Idx → EReal) (j : (⟨3, ![2, 128, 4096]⟩ : Shape).Idx) : EReal :=
  gated (fun k => x (ix3 (j 0) (j 1) k)) (column wg (j 2)) (column wu (j 2)) (sg (ix1 (j 2))) (su (ix1 (j 2)))

/-- Where the kernel's column `k` of `x` comes from: within each 64 columns, eight groups of eight, the first halves of the
    groups come before the second halves. -/
def from_ (k : ℕ) : ℕ := k / 64 * 64 + k / 4 % 8 * 8 + k / 32 % 2 * 4 + k % 4

theorem from_lt {k : ℕ} (h : k < 14336) : from_ k < 14336 := by unfold from_; omega

theorem from_parts (a h r b : ℕ) (hh : h < 2) (hr : r < 8) (hb : b < 4) :
    from_ (a * 64 + h * 32 + r * 4 + b) = a * 64 + r * 8 + h * 4 + b := by
  have e1 : (a * 64 + h * 32 + r * 4 + b) / 64 = a := by omega
  have e2 : (a * 64 + h * 32 + r * 4 + b) / 4 % 8 = r := by omega
  have e3 : (a * 64 + h * 32 + r * 4 + b) / 32 % 2 = h := by omega
  have e4 : (a * 64 + h * 32 + r * 4 + b) % 4 = b := by omega
  unfold from_
  rw [e1, e2, e3, e4]

/-- Where column `k` of `x` goes. -/
def to_ (k : ℕ) : ℕ := k / 64 * 64 + k / 4 % 2 * 32 + k / 8 % 8 * 4 + k % 4

theorem to_parts (a r h b : ℕ) (hh : h < 2) (hr : r < 8) (hb : b < 4) :
    to_ (a * 64 + r * 8 + h * 4 + b) = a * 64 + h * 32 + r * 4 + b := by
  have e1 : (a * 64 + r * 8 + h * 4 + b) / 64 = a := by omega
  have e2 : (a * 64 + r * 8 + h * 4 + b) / 8 % 8 = r := by omega
  have e3 : (a * 64 + r * 8 + h * 4 + b) / 4 % 2 = h := by omega
  have e4 : (a * 64 + r * 8 + h * 4 + b) % 4 = b := by omega
  unfold to_
  rw [e1, e2, e3, e4]

/-- That is a permutation of the columns. -/
def shuffle : Fin 14336 ≃ Fin 14336 where
  toFun k := ⟨from_ k.val, from_lt k.isLt⟩
  invFun k := ⟨to_ k.val, by unfold to_; omega⟩
  left_inv k := Fin.ext (by
    show to_ (from_ k.val) = k.val
    have e : from_ k.val = k.val / 64 * 64 + k.val / 4 % 8 * 8 + k.val / 32 % 2 * 4 + k.val % 4 := rfl
    rw [e, to_parts _ _ _ _ (Nat.mod_lt _ (by omega)) (Nat.mod_lt _ (by omega)) (Nat.mod_lt _ (by omega))]
    omega)
  right_inv k := Fin.ext (by
    show from_ (to_ k.val) = k.val
    have e : to_ k.val = k.val / 64 * 64 + k.val / 4 % 2 * 32 + k.val / 8 % 8 * 4 + k.val % 4 := rfl
    rw [e, from_parts _ _ _ _ (Nat.mod_lt _ (by omega)) (Nat.mod_lt _ (by omega)) (Nat.mod_lt _ (by omega))]
    omega)

/-- A projection on words whose groups are kept halves apart, of a row of `x` permuted to match, is the projection of the row
    itself on the words in their order. -/
theorem proj_shuffle (x : Fin 14336 → EReal) (w w' : Fin 3584 → BitVec 32) (s : EReal)
    (hw : ∀ q : Fin 3584, w' q = w ⟨q.val / 16 * 16 + q.val % 8 * 2 + q.val / 8 % 2, by omega⟩) :
    proj (fun k => x (shuffle k)) w' s = proj x w s := by
  have e : ∀ k : Fin 14336, x (shuffle k) * weight w' k = x (shuffle k) * weight w (shuffle k) := fun k => by
    refine congrArg (x (shuffle k) * ·) ?_
    unfold weight
    have h1 : w' ⟨k.val / 4, by omega⟩ = w ⟨from_ k.val / 4, by have := from_lt k.isLt; omega⟩ := (hw _).trans (congrArg w (Fin.ext (by
      show k.val / 4 / 16 * 16 + k.val / 4 % 8 * 2 + k.val / 4 / 8 % 2 = from_ k.val / 4
      unfold from_; omega)))
    have h2 : from_ k.val % 4 = k.val % 4 := by unfold from_; omega
    exact congrArg₂ byteVal h1 h2.symm
  unfold proj
  rw [Finset.sum_congr rfl fun k _ => e k, Equiv.sum_comp shuffle fun k => x k * weight w k]

/-- A sum over both halves of the contracted axis is the sum over the whole of it. -/
theorem sum_halves (f : Fin 14336 → EReal) :
    (∑ k : Fin 7168, f ⟨k.val, by omega⟩) + (∑ k : Fin 7168, f ⟨7168 + k.val, by omega⟩) = ∑ k : Fin 14336, f k :=
  (Fin.sum_univ_add (a := 7168) (b := 7168) f).symm

/-- A product of two matrices from a zero accumulator, the right one given as words: the sum over the contracted axis of
    `x`'s elements times the words' bytes. -/
theorem dot_words {M N : ℕ} {K r : ℕ} {φ : FTy} (D : DotDims ⟨2, ![M, K]⟩ ⟨2, ![K, N]⟩ ⟨2, ![M, N]⟩) (hD : D = DotDims.plain M K N)
    (x : FVec Ideal ⟨2, ![M, K]⟩ φ) (w : IVec ⟨2, ![r, N]⟩ 32) (h : (⟨2, ![r, N]⟩ : Shape).Bitcasts 32 ⟨2, ![K, N]⟩ 8)
    (i : Fin M) (c : Fin N) (hr : K ≤ 4 * r) :
    matmul D none x (bitcastToFloat .fp8e4m3 (bitcast ⟨2, ![K, N]⟩ 8 w h) : FVec Ideal ⟨2, ![K, N]⟩ .fp8e4m3)
        (constant ⟨2, ![M, N]⟩ .f32 0x00000000#32) (ix2 i c)
      = ∑ k : Fin K, x (ix2 i k) * byteVal (w (ix2 ⟨k.val / 4, by omega⟩ c)) (k.val % 4) := by
  subst hD
  refine (Ideal.matmul_plain_apply none x _ _ i c).trans ?_
  rw [constant_apply, Ideal.ofBits_zero_f32, zero_add]
  refine Finset.sum_congr rfl fun k _ => ?_
  congr 1
  show Ideal.ofBits .fp8e4m3 (bitcast ⟨2, ![K, N]⟩ 8 w h (ix2 k c)) = _
  rw [bitcast_32_8_ix2 w h k c ⟨k.val / 4, by omega⟩ rfl]
  rfl

end Cert.Proof.Gated

end
-- ==== Proof.KernelPermute.lean ====
/-
  What the first call leaves: `x` with its columns permuted. Each 256 columns are multiplied by a matrix of zeros and ones
  with a single one in each column, so that a column of the product is a column of `x`.
-/
module

public import proofs.«01_k».proof.Proof.Gen.KernelIdeal.Frame
public import proofs.«01_k».proof.Proof.Gated
public import Idealize.ShloMosaic.Lib.Pipeline.ValueKit.Tiles

@[expose] public section

set_option maxRecDepth 16384

noncomputable section

namespace Cert.Proof.KernelPermute

open Idealize.ShloMosaic Idealize.ShloMosaic.ValueIdx Cert.KernelIdeal Cert.KernelIdeal.Gen Cert.Proof.Gated
open Idealize.ShloMosaic.TcCoe Idealize.SL.Sem
open scoped BigOperators

/-- The row a column's one is in, as the body computes it. -/
theorem want_eq : ∀ d : Fin 256,
    ((BitVec.ofNat 32 d.val &&& 4294967232#32) ||| ((BitVec.ofNat 32 d.val &&& 28#32) <<< 1) ||| ((BitVec.ofNat 32 d.val &&& 32#32).sshiftRight 3)
      ||| (BitVec.ofNat 32 d.val &&& 3#32)) = BitVec.ofNat 32 (from_ d.val) := by decide +kernel

theorem from_lt256 (d : Fin 256) : from_ d.val < 256 := by unfold from_; omega

/-- The matrix: one where the row is the one wanted, zero elsewhere. -/
theorem perm_apply (s d : Fin 256) : k0_pay6 (F := Ideal) (ix2 s d) = if s.val = from_ d.val then (1 : EReal) else 0 := by
  have hc : (IntOp.cmpi .eq (BitVec.ofNat 32 s.val)
      ((BitVec.ofNat 32 d.val &&& 4294967232#32) ||| ((BitVec.ofNat 32 d.val &&& 28#32) <<< 1) ||| ((BitVec.ofNat 32 d.val &&& 32#32).sshiftRight 3)
      ||| (BitVec.ofNat 32 d.val &&& 3#32)))
      = if s.val = from_ d.val then 1#1 else 0#1 := by
    rw [want_eq]
    have hd := from_lt256 d
    by_cases h : s.val = from_ d.val
    · rw [h, if_pos rfl]; simp [IntOp.cmpi]
    · rw [if_neg h]
      have : BitVec.ofNat 32 s.val ≠ BitVec.ofNat 32 (from_ d.val) := fun e => h (by
        have := congrArg BitVec.toNat e
        simp only [BitVec.toNat_ofNat] at this
        omega)
      show BitVec.ofBool (BitVec.ofNat 32 s.val == BitVec.ofNat 32 (from_ d.val)) = 0#1
      rw [beq_eq_false_iff_ne.mpr this]; rfl
  have e : k0_pay6 (F := Ideal) (ix2 s d) = ((((IntOp.cmpi .eq (BitVec.ofNat 32 s.val)
      ((BitVec.ofNat 32 d.val &&& 4294967232#32) ||| ((BitVec.ofNat 32 d.val &&& 28#32) <<< 1) ||| ((BitVec.ofNat 32 d.val &&& 32#32).sshiftRight 3)
      ||| (BitVec.ofNat 32 d.val &&& 3#32))).setWidth 32).toInt : ℝ) : EReal) := by
    unfold k0_pay6
    have i0 : iota .tc S256x256 32 [0] iota_S256x256_d0_w32 (ix2 s d) = BitVec.ofNat 32 s.val := iota_single_apply .tc S256x256 32 0 _ _
    have i1 : iota .tc S256x256 32 [1] iota_S256x256_d1_w32 (ix2 s d) = BitVec.ofNat 32 d.val := iota_single_apply .tc S256x256 32 1 _ _
    simp only [truncf_apply, sitofp_apply, extui_apply, cmpi, ori, andi, shli, shrsi, broadcast, i0, i1]
    rfl
  rw [e, hc]
  split <;> simp

/-- A product with the matrix takes each column from where it is wanted. -/
theorem dot_perm (x : S256x256.Idx → EReal) (i d : Fin 256) :
    (matmul (φ₁ := .bf16) dot_S256x256_S256x256_S256x256_1_0_0_1_n_n none x (k0_pay6 (F := Ideal)) (constant S256x256 .f32 0x00000000#32)
      : FVec Ideal S256x256 .f32) (ix2 i d) = x (ix2 i ⟨from_ d.val, from_lt256 d⟩) := by
  refine (Ideal.matmul_plain_apply (M := 256) (K := 256) (N := 256) none x (k0_pay6 (F := Ideal)) _ i d).trans ?_
  rw [constant_apply, Ideal.ofBits_zero_f32, zero_add, Finset.sum_eq_single ⟨from_ d.val, from_lt256 d⟩]
  · rw [perm_apply, if_pos rfl, mul_one]
  · intro s _ hs
    rw [perm_apply, if_neg fun e => hs (Fin.ext e), mul_zero]
  · exact fun h => absurd (Finset.mem_univ _) h

/-- The tile the body leaves, element by element: its eight stores each permute 256 columns. -/
theorem out_apply (x : S256x2048.Idx → EReal) (i : Fin 256) (k : Fin 2048) :
    out0_1 (F := Ideal) x (ix2 i k) = x (ix2 i ⟨from_ k.val, by unfold from_; omega⟩) := by
  have piece : ∀ (o : ℕ) (ho : ∀ a, (![0, o] : Fin 2 → ℕ) a + S256x256.size a ≤ S256x2048.size a) (hd : 256 ∣ o)
      (j : S256x256.Idx), (matmul (φ₁ := .bf16) dot_S256x256_S256x256_S256x256_1_0_0_1_n_n none
        (View.ld (Val := Elt Ideal) (e' := .bf16) x (Rect.unit (s := S256x2048) ![0, o] S256x256.size ho) : FVec Ideal S256x256 .bf16)
        (k0_pay6 (F := Ideal)) (constant S256x256 .f32 0x00000000#32) : FVec Ideal S256x256 .f32) j
      = (fun y : S256x2048.Idx => x (ix2 (y 0) ⟨from_ (y 1).val, by
          have := (y 1).isLt; change (y 1).val < 2048 at this; unfold from_; omega⟩)) ((Rect.unit (s := S256x2048) ![0, o] S256x256.size ho).emb j) := by
    intro o ho ⟨q, hq⟩ j
    obtain ⟨i, d, rfl⟩ : ∃ (i d : Fin 256), j = ix2 i d := ⟨j 0, j 1, by funext a; match a with | ⟨0, _⟩ => rfl | ⟨1, _⟩ => rfl⟩
    refine (dot_perm _ i d).trans ?_
    refine View.ld_unit_apply_of (Val := Elt Ideal) (e := .bf16) x _ _ _ _ _ fun a => ?_
    match a with
    | ⟨0, _⟩ => rw [Rect.emb_apply]; show 0 + 1 * i.val = 0 + i.val; omega
    | ⟨1, _⟩ =>
      show from_ ((Rect.unit (s := S256x2048) ![0, o] S256x256.size ho).emb (ix2 i d) 1).val = o + from_ d.val
      rw [Rect.emb_apply]
      show from_ (o + 1 * d.val) = o + from_ d.val
      subst hq
      unfold from_
      omega
  unfold_out out0_1
  refine (View.canon_apply_of_pieces (fun y : S256x2048.Idx => x (ix2 (y 0) ⟨from_ (y 1).val, by
          have := (y 1).isLt; change (y 1).val < 2048 at this; unfold from_; omega⟩)) _ ?_ _ (cover0_1 _ _ _ _ _ _ _ _ _)).trans rfl
  intro p hp
  simp only [List.mem_cons, List.not_mem_nil, or_false] at hp
  simp only [k0_pay1, k0_pay2, k0_pay3, k0_pay4, k0_pay5, k0_pay7, k0_pay8, k0_pay9, shapeCast_self] at hp
  rcases hp with rfl | rfl | rfl | rfl | rfl | rfl | rfl | rfl
  · exact piece 1792 inb_S256x2048_S256x256_0_1792 ⟨7, rfl⟩
  · exact piece 1536 inb_S256x2048_S256x256_0_1536 ⟨6, rfl⟩
  · exact piece 1280 inb_S256x2048_S256x256_0_1280 ⟨5, rfl⟩
  · exact piece 1024 inb_S256x2048_S256x256_0_1024 ⟨4, rfl⟩
  · exact piece 768 inb_S256x2048_S256x256_0_768 ⟨3, rfl⟩
  · exact piece 512 inb_S256x2048_S256x256_0_512 ⟨2, rfl⟩
  · exact piece 256 inb_S256x2048_S256x256_0_256 ⟨1, rfl⟩
  · exact piece 0 inb_S256x2048_S256x256_0_0 ⟨0, rfl⟩

variable (V : (c : Dev nD) → (b : Ref sig .tc) → Buf (Elt Ideal) ((c : Thread nD τ).loc b))

/-- Where each window's block lies at point `t`. -/
theorem index_facts (t : Fin cfg0.N) : (win0_0.index t 0 = 0 ∧ win0_0.index t 1 = t.val) ∧ (win0_1.index t 0 = 0 ∧ win0_1.index t 1 = t.val) :=
  (by decide +kernel : ∀ t : Fin grid0.N, (win0_0.index t 0 = 0 ∧ win0_0.index t 1 = t.val) ∧ (win0_1.index t 0 = 0 ∧ win0_1.index t 1 = t.val)) t

theorem t_lt (t : Fin cfg0.N) : t.val < 7 := lt_of_lt_of_eq t.isLt N_0

/-- The call's result: its argument with the columns permuted. -/
abbrev res (c : Dev nD) : S256x14336.Idx → EReal := fun j => V c main_v0 (ix2 (j 0) (shuffle (j 1)))

theorem x_apply (c : Dev nD) (t : Fin cfg0.N) (i : Fin 256) (k : Fin 2048) :
    iblk0 V c 0 t (ix2 i k) = V c main_v0 (ix2 i ⟨2048 * t.val + k.val, by have := t_lt t; omega⟩) := by
  obtain ⟨⟨h0, h1⟩, -⟩ := index_facts t
  unfold iblk0
  rw [View.read_apply]
  show V c main_v0 _ = _
  congr 1
  funext a
  apply Fin.ext
  match a with
  | ⟨0, _⟩ => show win0_0.index t 0 * 256 + 1 * i.val = i.val; rw [h0]; omega
  | ⟨1, _⟩ => show win0_0.index t 1 * 2048 + 1 * k.val = 2048 * t.val + k.val; rw [h1]; omega

theorem flushed_eq (c : Dev nD) (t : Fin cfg0.N) :
    (dat0 V c).flushed 1 t = ((cfg0.win 1).blk t).view.read (Elt Ideal) (res V c) := by
  have ht := t_lt t
  obtain ⟨-, h0, h1⟩ := index_facts t
  have e : (dat0 V c).flushed 1 t = (cfg0.win 1).cut (grid0.coords t) (out0_1 (iblk0 V c 0 t)) := by
    show (cfg0.win 1).cut (grid0.coords t) ((dat0 V c).after 1 t) = _
    rw [after0_1]
  rw [e]
  refine funext fun j => ?_
  obtain ⟨i, l, rfl⟩ : ∃ (i : Fin 256) (l : Fin 2048), j = ix2 i l := ⟨j 0, j 1, by funext a; match a with | ⟨0, _⟩ => rfl | ⟨1, _⟩ => rfl⟩
  rw [View.read_apply]
  have hj : ((cfg0.win 1).blk t).view.emb (ix2 i l) = (ix2 i ⟨2048 * t.val + l.val, by omega⟩ : S256x14336.Idx) := by
    funext a
    apply Fin.ext
    match a with
    | ⟨0, _⟩ => show win0_1.index t 0 * 256 + 1 * i.val = i.val; rw [h0]; omega
    | ⟨1, _⟩ => show win0_1.index t 1 * 2048 + 1 * l.val = 2048 * t.val + l.val; rw [h1]; omega
  rw [hj]
  refine (out_apply _ i l).trans ((x_apply V c t i _).trans ?_)
  show V c main_v0 _ = V c main_v0 _
  congr 1
  funext a
  match a with
  | ⟨0, _⟩ => rfl
  | ⟨1, _⟩ => exact Fin.ext (by
      show 2048 * t.val + from_ l.val = from_ (2048 * t.val + l.val)
      unfold from_; omega)

/-- So the array the call leaves is it: the tiles cover the array. -/
theorem final (c : Dev nD) : (dat0 V c).arrAt 1 cfg0.N = res V c :=
  (dat0 V c).arrAt_eq_of_cover 1 (res V c) (fun t _ => flushed_eq V c t) fun i => by
    have h0 : (i 0 : ℕ) < 256 := (i 0).isLt
    have h1 : (i 1 : ℕ) < 14336 := (i 1).isLt
    have ht : (i 1 : ℕ) / 2048 < cfg0.N := by rw [show cfg0.N = 7 from N_0]; omega
    obtain ⟨-, e0, e1⟩ := index_facts ⟨(i 1 : ℕ) / 2048, ht⟩
    refine ⟨⟨(i 1 : ℕ) / 2048, ht⟩, (by decide +kernel : ∀ t : Fin grid0.N, win0_1.flush t = true) _, ?_⟩
    show i ∈ ((View.whole main_v1).slice (win0_1.rect ⟨(i 1 : ℕ) / 2048, ht⟩)).set
    rw [View.set_slice_whole, Rect.mem_set_unit]
    intro a
    match a with
    | ⟨0, _⟩ =>
      show win0_1.index ⟨(i 1 : ℕ) / 2048, ht⟩ 0 * 256 ≤ (i 0 : ℕ) ∧ (i 0 : ℕ) < win0_1.index ⟨(i 1 : ℕ) / 2048, ht⟩ 0 * 256 + 256
      rw [e0]; omega
    | ⟨1, _⟩ =>
      show win0_1.index ⟨(i 1 : ℕ) / 2048, ht⟩ 1 * 2048 ≤ (i 1 : ℕ) ∧ (i 1 : ℕ) < win0_1.index ⟨(i 1 : ℕ) / 2048, ht⟩ 1 * 2048 + 2048
      rw [e1]
      show (i 1 : ℕ) / 2048 * 2048 ≤ (i 1 : ℕ) ∧ (i 1 : ℕ) < (i 1 : ℕ) / 2048 * 2048 + 2048
      omega

end Cert.Proof.KernelPermute

end
-- ==== Proof.KernelTile.lean ====
/-
  What the kernel's body leaves in one tile of its result: at row `i`, column `c` of the tile, the gated projection of row
  `i` of its first argument on the columns of words that the tile's two blocks put side by side, each product taken in two halves of the
  contracted axis.
-/
module

public import proofs.«01_k».proof.Proof.Gen.KernelIdeal.Frame
public import proofs.«01_k».proof.Proof.Gated
public import Idealize.ShloMosaic.Lib.Pipeline.ValueKit.Tiles

@[expose] public section

set_option maxRecDepth 16384

noncomputable section

namespace Cert.Proof.KernelTile

open Idealize.ShloMosaic Idealize.ShloMosaic.ValueIdx Cert.KernelIdeal Cert.KernelIdeal.Gen Cert.Proof.Gated
open scoped BigOperators

/-- The words of column `c` of a tile: block `c / 128` of the two, lane `c % 128`. -/
def col (w : S2x3584x128.Idx → BitVec 32) (c : Fin 256) (q : Fin 3584) : BitVec 32 :=
  w (ix3 ⟨c.val / 128, by omega⟩ q ⟨c.val % 128, by omega⟩)

/-- A half of the words of both blocks, put side by side, at row `q` of the half. -/
theorem pair_apply (w : S2x3584x128.Idx → BitVec 32) (o : ℕ) (ho : o + 1792 ≤ 3584)
    (h0 : ∀ a, (![0, o, 0] : Fin 3 → ℕ) a + S1x1792x128.size a ≤ S2x3584x128.size a)
    (h1 : ∀ a, (![1, o, 0] : Fin 3 → ℕ) a + S1x1792x128.size a ≤ S2x3584x128.size a)
    (q : Fin 1792) (c : Fin 256) :
    concatenate S1792x256 1
      [⟨S1792x128, shapeCast S1792x128 (View.ld (Val := Elt Ideal) (e' := .i32) w (Rect.unit (s := S2x3584x128) ![0, o, 0] S1x1792x128.size h0)) shapeCasts_S1x1792x128_S1792x128⟩,
       ⟨S1792x128, shapeCast S1792x128 (View.ld (Val := Elt Ideal) (e' := .i32) w (Rect.unit (s := S2x3584x128) ![1, o, 0] S1x1792x128.size h1)) shapeCasts_S1x1792x128_S1792x128⟩]
      concatenates_S1792x128_S1792x128_S1792x256_d1 (ix2 q c) = col w c ⟨o + q.val, by omega⟩ := by
  by_cases hc : c.val < 128
  · refine (concatenate_pair_apply_left (t := S1792x256) (s₁ := S1792x128) (s₂ := S1792x128) 1 _ _ _ (ix2 q c) rfl
      (ix2 q ⟨c.val, hc⟩) (fun b => by match b with | ⟨0, _⟩ => rfl | ⟨1, _⟩ => rfl)).trans ?_
    refine (shapeCast_dropUnit_apply ![1792, 128] _ _ _).trans ?_
    refine View.ld_unit_apply_of (Val := Elt Ideal) (e := .i32) w _ _ _ _ _ fun a => ?_
    match a with
    | ⟨0, _⟩ => show c.val / 128 = 0 + 0; omega
    | ⟨1, _⟩ => rfl
    | ⟨2, _⟩ => show c.val % 128 = 0 + c.val; omega
  · refine (concatenate_pair_apply_right (t := S1792x256) (s₁ := S1792x128) (s₂ := S1792x128) 1 _ _ _ (ix2 q c) rfl rfl
      (ix2 q ⟨c.val - 128, by omega⟩) (fun b hb => by
        match b with
        | ⟨0, _⟩ => rfl
        | ⟨1, _⟩ => exact absurd rfl hb) (by show c.val - 128 + 128 = c.val; omega)).trans ?_
    refine (shapeCast_dropUnit_apply ![1792, 128] _ _ _).trans ?_
    refine View.ld_unit_apply_of (Val := Elt Ideal) (e := .i32) w _ _ _ _ _ fun a => ?_
    match a with
    | ⟨0, _⟩ => show c.val / 128 = 1 + 0; omega
    | ⟨1, _⟩ => rfl
    | ⟨2, _⟩ => show c.val % 128 = 0 + (c.val - 128); omega

/-- The product over one half of the contracted axis, which starts at word row `o`. -/
theorem half_apply (x : S256x14336.Idx → EReal) (w : S2x3584x128.Idx → BitVec 32) (o : ℕ) (ho : o + 1792 ≤ 3584)
    (hx : ∀ a, (![0, 4 * o] : Fin 2 → ℕ) a + S256x7168.size a ≤ S256x14336.size a)
    (h0 : ∀ a, (![0, o, 0] : Fin 3 → ℕ) a + S1x1792x128.size a ≤ S2x3584x128.size a)
    (h1 : ∀ a, (![1, o, 0] : Fin 3 → ℕ) a + S1x1792x128.size a ≤ S2x3584x128.size a)
    (i : Fin 256) (c : Fin 256) :
    (matmul (φ₁ := .bf16) dot_S256x7168_S7168x256_S256x256_1_0_0_1_n_n none
      (View.ld (Val := Elt Ideal) (e' := .bf16) x (Rect.unit (s := S256x14336) ![0, 4 * o] S256x7168.size hx) : FVec Ideal S256x7168 .bf16)
      (bitcastToFloat .fp8e4m3 (bitcast S7168x256 8 (concatenate S1792x256 1
        [⟨S1792x128, shapeCast S1792x128 (View.ld (Val := Elt Ideal) (e' := .i32) w (Rect.unit (s := S2x3584x128) ![0, o, 0] S1x1792x128.size h0)) shapeCasts_S1x1792x128_S1792x128⟩,
         ⟨S1792x128, shapeCast S1792x128 (View.ld (Val := Elt Ideal) (e' := .i32) w (Rect.unit (s := S2x3584x128) ![1, o, 0] S1x1792x128.size h1)) shapeCasts_S1x1792x128_S1792x128⟩]
        concatenates_S1792x128_S1792x128_S1792x256_d1) bitcasts_S1792x256_w32_S7168x256_w8) : FVec Ideal S7168x256 .fp8e4m3)
      (constant S256x256 .f32 0x00000000#32) : FVec Ideal S256x256 .f32) (ix2 i c)
      = ∑ k : Fin 7168, x (ix2 i ⟨4 * o + k.val, by omega⟩) * weight (col w c) ⟨4 * o + k.val, by omega⟩ := by
  refine (dot_words (M := 256) (N := 256) (K := 7168) (r := 1792) _ rfl _ _ _ i c (by omega)).trans ?_
  refine Finset.sum_congr rfl fun k _ => ?_
  congr 1
  · refine View.ld_unit_apply_of (Val := Elt Ideal) (e := .bf16) x _ _ _ _ _ fun a => ?_
    match a with
    | ⟨0, _⟩ => show i.val = 0 + i.val; omega
    | ⟨1, _⟩ => rfl
  · rw [pair_apply w o ho h0 h1]
    unfold weight
    have e1 : (4 * o + k.val) / 4 = o + k.val / 4 := by omega
    have e2 : (4 * o + k.val) % 4 = k.val % 4 := by omega
    simp only [e1, e2]

/-- The scales' row, repeated along the rows of the tile. -/
theorem scale_apply (s : S1x256.Idx → EReal) (h : ∀ a, (![0, 0] : Fin 2 → ℕ) a + S1x256.size a ≤ S1x256.size a) (i : Fin 256) (c : Fin 256) :
    (broadcastTo S256x256 (View.ld (Val := Elt Ideal) (e' := .f32) s (Rect.unit (s := S1x256) ![0, 0] S1x256.size h)) broadcasts_S1x256_S256x256)
      (ix2 i c) = s (ix2 0 c) := by
  refine (broadcastTo_apply _ _ (ix2 i c) (ix2 0 c) ?_).trans ?_
  · intro a
    match a with
    | ⟨0, _⟩ => rfl
    | ⟨1, _⟩ => rfl
  · refine View.ld_unit_apply_of (Val := Elt Ideal) (e := .f32) s _ _ _ _ _ fun a => ?_
    match a with
    | ⟨0, _⟩ => rfl
    | ⟨1, _⟩ => show c.val = 0 + c.val; omega

/-- The tile the body leaves, element by element. -/
theorem out_apply (x : S256x14336.Idx → EReal) (wg wu : S2x3584x128.Idx → BitVec 32) (sg su : S1x256.Idx → EReal)
    (i : Fin 256) (c : Fin 256) :
    out1_5 (F := Ideal) x wg wu sg su (ix2 i c)
      = gated (fun k => x (ix2 i k)) (col wg c) (col wu c) (sg (ix2 0 c)) (su (ix2 0 c)) := by
  unfold out1_5
  rw [View.canon_unit_zero (funext fun a => by match a with | ⟨0, _⟩ => rfl | ⟨1, _⟩ => rfl)]
  have g0 := half_apply x wg 0 (by omega) inb_S256x14336_S256x7168_0_0 inb_S2x3584x128_S1x1792x128_0_0_0 inb_S2x3584x128_S1x1792x128_1_0_0 i c
  have g1 := half_apply x wg 1792 (by omega) inb_S256x14336_S256x7168_0_7168 inb_S2x3584x128_S1x1792x128_0_1792_0 inb_S2x3584x128_S1x1792x128_1_1792_0 i c
  have u0 := half_apply x wu 0 (by omega) inb_S256x14336_S256x7168_0_0 inb_S2x3584x128_S1x1792x128_0_0_0 inb_S2x3584x128_S1x1792x128_1_0_0 i c
  have u1 := half_apply x wu 1792 (by omega) inb_S256x14336_S256x7168_0_7168 inb_S2x3584x128_S1x1792x128_0_1792_0 inb_S2x3584x128_S1x1792x128_1_1792_0 i c
  have sgE := scale_apply sg inb_S1x256_S1x256_0_0 i c
  have suE := scale_apply su inb_S1x256_S1x256_0_0 i c
  have hg : (k1_pay2 (F := Ideal) (View.ld wg r1_0) (View.ld wg r1_1) (View.ld x r1_2) (View.ld wg r1_3) (View.ld wg r1_4) (View.ld x r1_5) (View.ld sg r1_6)) (ix2 i c)
      = proj (fun k => x (ix2 i k)) (col wg c) (sg (ix2 0 c)) := by
    have h := congrArg₂ (· * ·) (congrArg₂ (· + ·) g0 g1) sgE
    refine Eq.trans ?_ (h.trans ?_)
    · simp only [k1_pay2, shapeCast_self]
      rfl
    · unfold proj
      rw [← sum_halves (fun k => x (ix2 i k) * weight (col wg c) k)]
      simp only [Nat.mul_zero, Nat.zero_add]
  have hu : ((∑ k : Fin 7168, x (ix2 i ⟨4 * 0 + k.val, by omega⟩) * weight (col wu c) ⟨4 * 0 + k.val, by omega⟩)
      + (∑ k : Fin 7168, x (ix2 i ⟨4 * 1792 + k.val, by omega⟩) * weight (col wu c) ⟨4 * 1792 + k.val, by omega⟩)) * su (ix2 0 c)
      = proj (fun k => x (ix2 i k)) (col wu c) (su (ix2 0 c)) := by
    unfold proj
    rw [← sum_halves (fun k => x (ix2 i k) * weight (col wu c) k)]
    simp only [Nat.mul_zero, Nat.zero_add]
  unfold gated
  rw [← hg, ← hu, ← suE, ← u0, ← u1]
  simp only [k1_pay1, k1_pay3, k1_pay4, shapeCast_self]
  rfl

end Cert.Proof.KernelTile

end
-- ==== Proof.KernelMatmul.lean ====
/-
  What the second call leaves: tile `t` holds columns `256 t` to `256 t + 255`, whose words are blocks `2 t` and
  `2 t + 1`; so at row `i`, column `o` it is the gated projection of row `i` of its first argument on lane `o % 128` of block
  `o / 128`.
-/
module

public import proofs.«01_k».proof.Proof.Gen.KernelIdeal.Frame
public import proofs.«01_k».proof.Proof.KernelTile
public import Idealize.ShloMosaic.Lib.Pipeline.Value

@[expose] public section

set_option maxRecDepth 16384

noncomputable section

namespace Cert.Proof.KernelMatmul

open Idealize.ShloMosaic Idealize.ShloMosaic.ValueIdx Cert.KernelIdeal Cert.KernelIdeal.Gen Cert.Proof.Gated
open Idealize.ShloMosaic.TcCoe Idealize.SL.Sem
open scoped BigOperators

variable (V : (c : Dev nD) → (b : Ref sig .tc) → Buf (Elt Ideal) ((c : Thread nD τ).loc b))

/-- Where each window's block lies at point `t`. -/
theorem index_facts (t : Fin cfg1.N) :
    (win1_0.index t 0 = 0 ∧ win1_0.index t 1 = 0) ∧ (win1_1.index t 0 = t.val ∧ win1_1.index t 1 = 0 ∧ win1_1.index t 2 = 0)
      ∧ (win1_2.index t 0 = t.val ∧ win1_2.index t 1 = 0 ∧ win1_2.index t 2 = 0) ∧ (win1_3.index t 0 = 0 ∧ win1_3.index t 1 = t.val)
      ∧ (win1_4.index t 0 = 0 ∧ win1_4.index t 1 = t.val) ∧ (win1_5.index t 0 = 0 ∧ win1_5.index t 1 = t.val) :=
  (by decide +kernel : ∀ t : Fin grid1.N,
    (win1_0.index t 0 = 0 ∧ win1_0.index t 1 = 0) ∧ (win1_1.index t 0 = t.val ∧ win1_1.index t 1 = 0 ∧ win1_1.index t 2 = 0)
      ∧ (win1_2.index t 0 = t.val ∧ win1_2.index t 1 = 0 ∧ win1_2.index t 2 = 0) ∧ (win1_3.index t 0 = 0 ∧ win1_3.index t 1 = t.val)
      ∧ (win1_4.index t 0 = 0 ∧ win1_4.index t 1 = t.val) ∧ (win1_5.index t 0 = 0 ∧ win1_5.index t 1 = t.val)) t

theorem t_lt (t : Fin cfg1.N) : t.val < 16 := lt_of_lt_of_eq t.isLt N_1

/-- The blocks of the call's arguments the body finds at point `t`. -/
theorem x_apply (c : Dev nD) (t : Fin cfg1.N) (i : Fin 256) (k : Fin 14336) :
    iblk1 V c 0 t (ix2 i k) = V c main_v1 (ix2 i k) := by
  obtain ⟨⟨h0, h1⟩, -⟩ := index_facts t
  unfold iblk1
  rw [View.read_apply]
  show V c main_v1 _ = _
  congr 1
  funext a
  apply Fin.ext
  match a with
  | ⟨0, _⟩ => show win1_0.index t 0 * 256 + 1 * i.val = i.val; rw [h0]; omega
  | ⟨1, _⟩ => show win1_0.index t 1 * 14336 + 1 * k.val = k.val; rw [h1]; omega

theorem wg_apply (c : Dev nD) (t : Fin cfg1.N) (b : Fin 2) (q : Fin 3584) (l : Fin 128) :
    iblk1 V c 1 t (ix3 b q l) = V c main_v2 (ix3 ⟨2 * t.val + b.val, by have := t_lt t; omega⟩ q l) := by
  obtain ⟨-, ⟨h0, h1, h2⟩, -⟩ := index_facts t
  unfold iblk1
  rw [View.read_apply]
  show V c main_v2 _ = _
  congr 1
  funext a
  apply Fin.ext
  match a with
  | ⟨0, _⟩ => show win1_1.index t 0 * 2 + 1 * b.val = 2 * t.val + b.val; rw [h0]; omega
  | ⟨1, _⟩ => show win1_1.index t 1 * 3584 + 1 * q.val = q.val; rw [h1]; omega
  | ⟨2, _⟩ => show win1_1.index t 2 * 128 + 1 * l.val = l.val; rw [h2]; omega

theorem wu_apply (c : Dev nD) (t : Fin cfg1.N) (b : Fin 2) (q : Fin 3584) (l : Fin 128) :
    iblk1 V c 2 t (ix3 b q l) = V c main_v3 (ix3 ⟨2 * t.val + b.val, by have := t_lt t; omega⟩ q l) := by
  obtain ⟨-, -, ⟨h0, h1, h2⟩, -⟩ := index_facts t
  unfold iblk1
  rw [View.read_apply]
  show V c main_v3 _ = _
  congr 1
  funext a
  apply Fin.ext
  match a with
  | ⟨0, _⟩ => show win1_2.index t 0 * 2 + 1 * b.val = 2 * t.val + b.val; rw [h0]; omega
  | ⟨1, _⟩ => show win1_2.index t 1 * 3584 + 1 * q.val = q.val; rw [h1]; omega
  | ⟨2, _⟩ => show win1_2.index t 2 * 128 + 1 * l.val = l.val; rw [h2]; omega

theorem sg_apply (c : Dev nD) (t : Fin cfg1.N) (l : Fin 256) :
    iblk1 V c 3 t (ix2 0 l) = V c main_v4 (ix2 0 ⟨256 * t.val + l.val, by have := t_lt t; omega⟩) := by
  obtain ⟨-, -, -, ⟨h0, h1⟩, -⟩ := index_facts t
  unfold iblk1
  rw [View.read_apply]
  show V c main_v4 _ = _
  congr 1
  funext a
  apply Fin.ext
  match a with
  | ⟨0, _⟩ => show win1_3.index t 0 * 1 + 1 * 0 = 0; rw [h0]
  | ⟨1, _⟩ => show win1_3.index t 1 * 256 + 1 * l.val = 256 * t.val + l.val; rw [h1]; omega

theorem su_apply (c : Dev nD) (t : Fin cfg1.N) (l : Fin 256) :
    iblk1 V c 4 t (ix2 0 l) = V c main_v5 (ix2 0 ⟨256 * t.val + l.val, by have := t_lt t; omega⟩) := by
  obtain ⟨-, -, -, -, ⟨h0, h1⟩, -⟩ := index_facts t
  unfold iblk1
  rw [View.read_apply]
  show V c main_v5 _ = _
  congr 1
  funext a
  apply Fin.ext
  match a with
  | ⟨0, _⟩ => show win1_4.index t 0 * 1 + 1 * 0 = 0; rw [h0]
  | ⟨1, _⟩ => show win1_4.index t 1 * 256 + 1 * l.val = 256 * t.val + l.val; rw [h1]; omega

/-- The result array of the call's arguments. -/
abbrev res (c : Dev nD) : S256x4096.Idx → EReal :=
  blocks (V c main_v1) (V c main_v2)
      (V c main_v3) (V c main_v4) (V c main_v5)

/-- Point `t` writes tile `t` of it. -/
theorem flushed_eq (c : Dev nD) (t : Fin cfg1.N) (hf : (cfg1.win 5).flush t = true) :
    (dat1 V c).flushed 5 t = ((cfg1.win 5).blk t).view.read (Elt Ideal) (res V c) := by
  have ht := t_lt t
  obtain ⟨-, -, -, -, -, h0, h1⟩ := index_facts t
  have e : (dat1 V c).flushed 5 t = (cfg1.win 5).cut (grid1.coords t)
      (out1_5 (iblk1 V c 0 t) (iblk1 V c 1 t) (iblk1 V c 2 t) (iblk1 V c 3 t) (iblk1 V c 4 t)) := by
    show (cfg1.win 5).cut (grid1.coords t) ((dat1 V c).after 5 t) = _
    rw [after1_5]
  rw [e]
  refine funext fun j => ?_
  obtain ⟨i, l, rfl⟩ : ∃ (i l : Fin 256), j = ix2 i l := ⟨j 0, j 1, by funext a; match a with | ⟨0, _⟩ => rfl | ⟨1, _⟩ => rfl⟩
  rw [View.read_apply]
  have hj : ((cfg1.win 5).blk t).view.emb (ix2 i l) = (ix2 i ⟨256 * t.val + l.val, by omega⟩ : S256x4096.Idx) := by
    funext a
    apply Fin.ext
    match a with
    | ⟨0, _⟩ => show win1_5.index t 0 * 256 + 1 * i.val = i.val; rw [h0]; omega
    | ⟨1, _⟩ => show win1_5.index t 1 * 256 + 1 * l.val = 256 * t.val + l.val; rw [h1]; omega
  rw [hj]
  refine (KernelTile.out_apply _ _ _ _ _ i l).trans ?_
  show _ = blocks _ _ _ _ _ (ix2 i ⟨256 * t.val + l.val, by omega⟩)
  unfold blocks
  have e1 : (256 * t.val + l.val) / 128 = 2 * t.val + l.val / 128 := by omega
  have e2 : (256 * t.val + l.val) % 128 = l.val % 128 := by omega
  congr 1
  · exact funext fun k => x_apply V c t i k
  · refine funext fun q => (wg_apply V c t ⟨l.val / 128, by omega⟩ q ⟨l.val % 128, by omega⟩).trans ?_
    congr 1
    funext a
    match a with
    | ⟨0, _⟩ => exact Fin.ext e1.symm
    | ⟨1, _⟩ => rfl
    | ⟨2, _⟩ => exact Fin.ext e2.symm
  · refine funext fun q => (wu_apply V c t ⟨l.val / 128, by omega⟩ q ⟨l.val % 128, by omega⟩).trans ?_
    congr 1
    funext a
    match a with
    | ⟨0, _⟩ => exact Fin.ext e1.symm
    | ⟨1, _⟩ => rfl
    | ⟨2, _⟩ => exact Fin.ext e2.symm
  · exact sg_apply V c t l
  · exact su_apply V c t l

/-- So the result array after the run is it: the tiles cover the array. -/
theorem final (c : Dev nD) : (dat1 V c).arrAt 5 cfg1.N = res V c :=
  (dat1 V c).arrAt_eq_of_cover 5 (res V c) (flushed_eq V c) fun i => by
    have h0 : (i 0 : ℕ) < 256 := (i 0).isLt
    have h1 : (i 1 : ℕ) < 4096 := (i 1).isLt
    have ht : (i 1 : ℕ) / 256 < cfg1.N := by rw [show cfg1.N = 16 from N_1]; omega
    obtain ⟨-, -, -, -, -, e0, e1⟩ := index_facts ⟨(i 1 : ℕ) / 256, ht⟩
    refine ⟨⟨(i 1 : ℕ) / 256, ht⟩, (by decide +kernel : ∀ t : Fin grid1.N, win1_5.flush t = true) _, ?_⟩
    show i ∈ ((View.whole main_v6).slice (win1_5.rect ⟨(i 1 : ℕ) / 256, ht⟩)).set
    rw [View.set_slice_whole, Rect.mem_set_unit]
    intro a
    match a with
    | ⟨0, _⟩ =>
      show win1_5.index ⟨(i 1 : ℕ) / 256, ht⟩ 0 * 256 ≤ (i 0 : ℕ) ∧ (i 0 : ℕ) < win1_5.index ⟨(i 1 : ℕ) / 256, ht⟩ 0 * 256 + 256
      rw [e0]; omega
    | ⟨1, _⟩ =>
      show win1_5.index ⟨(i 1 : ℕ) / 256, ht⟩ 1 * 256 ≤ (i 1 : ℕ) ∧ (i 1 : ℕ) < win1_5.index ⟨(i 1 : ℕ) / 256, ht⟩ 1 * 256 + 256
      rw [e1]
      show (i 1 : ℕ) / 256 * 256 ≤ (i 1 : ℕ) ∧ (i 1 : ℕ) < (i 1 : ℕ) / 256 * 256 + 256
      omega

end Cert.Proof.KernelMatmul

end
-- ==== Proof.KernelWhole.lean ====
/-
  What the kernel leaves in its result: its second call's tiles, of `x` with its columns permuted by the first call and of the
  words with a group's halves kept apart. The two permutations cancel in the sum, so at batch `b`, token `s`, column `o` it is the
  gated projection of that row of `x` on column `o` of the words in their order.
-/
module

public import proofs.«01_k».proof.Proof.Gen.KernelIdeal.Frame
public import proofs.«01_k».proof.Proof.KernelPermute
public import proofs.«01_k».proof.Proof.KernelMatmul

@[expose] public section

set_option maxRecDepth 16384

noncomputable section

namespace Cert.Proof.KernelWhole

open Idealize.ShloMosaic Idealize.ShloMosaic.ValueIdx Cert.KernelIdeal Cert.KernelIdeal.Gen Cert.Proof.Gated
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The result the claim names. -/
abbrev res (c : Dev nD) : S2x128x4096.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4))

/-! ## What each call finds in its arrays -/

theorem V1_v0 (c : Dev nD) : V1 m ρ c main_v0
    = shapeCast S256x14336 (m ((c : Thread nD τ).loc main_arg0)) shapeCasts_S2x128x14336_S256x14336 := rfl

theorem V3_v1 (c : Dev nD) : V3 m ρ c main_v1 = KernelPermute.res (V1 m ρ) c :=
  (W3_of m ρ c main_v1 (by decide)).trans ((W2_arr m ρ c 1).trans (KernelPermute.final (V1 m ρ) c))

theorem V3_v2 (c : Dev nD) : V3 m ρ c main_v2
    = shapeCast S32x3584x128 (m ((c : Thread nD τ).loc main_arg1)) shapeCasts_S32x224x2x8x128_S32x3584x128 := by
  rw [← W2_args m ρ c main_arg1 (by decide)]; rfl
theorem V3_v3 (c : Dev nD) : V3 m ρ c main_v3
    = shapeCast S32x3584x128 (m ((c : Thread nD τ).loc main_arg2)) shapeCasts_S32x224x2x8x128_S32x3584x128 := by
  rw [← W2_args m ρ c main_arg2 (by decide)]; rfl
theorem V3_v4 (c : Dev nD) : V3 m ρ c main_v4
    = shapeCast S1x4096 (m ((c : Thread nD τ).loc main_arg3)) shapeCasts_S4096_S1x4096 := by
  rw [← W2_args m ρ c main_arg3 (by decide)]; rfl
theorem V3_v5 (c : Dev nD) : V3 m ρ c main_v5
    = shapeCast S1x4096 (m ((c : Thread nD τ).loc main_arg4)) shapeCasts_S4096_S1x4096 := by
  rw [← W2_args m ρ c main_arg4 (by decide)]; rfl

/-! ## The result -/

/-- Words with a group's halves kept apart: row `q` is half `q / 8 % 2` of group `q / 16 * 8 + q % 8`. -/
theorem word_apply (w : S32x224x2x8x128.Idx → BitVec 32) (o : Fin 4096) (q : Fin 3584) :
    shapeCast S32x3584x128 w shapeCasts_S32x224x2x8x128_S32x3584x128 (ix3 ⟨o.val / 128, by omega⟩ q ⟨o.val % 128, by omega⟩)
      = column w o ⟨q.val / 16 * 16 + q.val % 8 * 2 + q.val / 8 % 2, by omega⟩ := by
  unfold column
  refine shapeCast_apply _ _ _ _ ?_
  rw [Shape.rowMajor_val_five, Shape.rowMajor_val_three]
  show (((o.val / 128 * 224 + (q.val / 16 * 16 + q.val % 8 * 2 + q.val / 8 % 2) / 16) * 2
      + (q.val / 16 * 16 + q.val % 8 * 2 + q.val / 8 % 2) % 2) * 8
      + (q.val / 16 * 16 + q.val % 8 * 2 + q.val / 8 % 2) / 2 % 8) * 128 + o.val % 128
    = (o.val / 128 * 3584 + q.val) * 128 + o.val % 128
  have e1 : (q.val / 16 * 16 + q.val % 8 * 2 + q.val / 8 % 2) / 16 = q.val / 16 := by omega
  have e2 : (q.val / 16 * 16 + q.val % 8 * 2 + q.val / 8 % 2) % 2 = q.val / 8 % 2 := by omega
  have e3 : (q.val / 16 * 16 + q.val % 8 * 2 + q.val / 8 % 2) / 2 % 8 = q.val % 8 := by omega
  rw [e1, e2, e3]
  omega

/-- The projection the second call computes is the one of the row itself on the words in their order. -/
theorem proj_eq (x : Fin 14336 → EReal) (w : S32x224x2x8x128.Idx → BitVec 32) (o : Fin 4096) (s : EReal) :
    proj (fun k => x (shuffle k))
        (fun q => shapeCast S32x3584x128 w shapeCasts_S32x224x2x8x128_S32x3584x128 (ix3 ⟨o.val / 128, by omega⟩ q ⟨o.val % 128, by omega⟩)) s
      = proj x (column w o) s :=
  proj_shuffle x (column w o) _ s fun q => word_apply w o q

/-- One row of `x` through the second call, the first having permuted it. -/
theorem gated_eq (x x' : Fin 14336 → EReal) (hx : ∀ k, x' k = x (shuffle k)) (wg wu : S32x224x2x8x128.Idx → BitVec 32) (o : Fin 4096)
    (sg su sg' su' : EReal) (hg : sg' = sg) (hu : su' = su) :
    gated x'
        (fun q => shapeCast S32x3584x128 wg shapeCasts_S32x224x2x8x128_S32x3584x128 (ix3 ⟨o.val / 128, by omega⟩ q ⟨o.val % 128, by omega⟩))
        (fun q => shapeCast S32x3584x128 wu shapeCasts_S32x224x2x8x128_S32x3584x128 (ix3 ⟨o.val / 128, by omega⟩ q ⟨o.val % 128, by omega⟩))
        sg' su'
      = gated x (column wg o) (column wu o) sg su := by
  rw [show x' = fun k => x (shuffle k) from funext hx, hg, hu]
  unfold gated
  rw [proj_eq x wg o sg, proj_eq x wu o su]

/-- A row of the flattened `x`. -/
theorem row_apply (x : S2x128x14336.Idx → EReal) (b : Fin 2) (s : Fin 128) (k : Fin 14336) :
    shapeCast S256x14336 x shapeCasts_S2x128x14336_S256x14336 (ix2 ⟨b.val * 128 + s.val, by omega⟩ k) = x (ix3 b s k) := by
  refine shapeCast_apply _ _ _ _ ?_
  rw [Shape.rowMajor_val_three, Shape.rowMajor_val_two]
  rfl

/-- The scales laid in a row. -/
theorem scale_apply (s : S4096.Idx → EReal) (o : Fin 4096) :
    shapeCast S1x4096 s shapeCasts_S4096_S1x4096 (ix2 0 o) = s (ix1 o) := by
  refine shapeCast_apply _ _ _ _ ?_
  rw [Shape.rowMajor_val_one, Shape.rowMajor_val_two]
  show o.val = 0 * 4096 + o.val
  omega

theorem final (c : Dev nD) : W5 m ρ c (Proc.devRef .tc main_v7) = res m c := by
  have e : W5 m ρ c (Proc.devRef .tc main_v7)
      = shapeCast S2x128x4096 (W4 m ρ c (Proc.devRef .tc main_v6)) shapeCasts_S256x4096_S2x128x4096 := rfl
  have e4 : W4 m ρ c (Proc.devRef .tc main_v6) = blocks (V3 m ρ c main_v1) (V3 m ρ c main_v2) (V3 m ρ c main_v3)
      (V3 m ρ c main_v4) (V3 m ρ c main_v5) := (W4_arr m ρ c 5).trans (KernelMatmul.final (V3 m ρ) c)
  rw [e, e4, V3_v1, V3_v2, V3_v3, V3_v4, V3_v5]
  refine funext fun j => ?_
  obtain ⟨b, s, o, rfl⟩ : ∃ (b : Fin 2) (s : Fin 128) (o : Fin 4096), j = ix3 b s o :=
    ⟨j 0, j 1, j 2, by funext a; match a with | ⟨0, _⟩ => rfl | ⟨1, _⟩ => rfl | ⟨2, _⟩ => rfl⟩
  refine (shapeCast_apply _ _ (ix3 b s o) (ix2 ⟨b.val * 128 + s.val, by omega⟩ o) ?_).trans ?_
  · rw [Shape.rowMajor_val_three, Shape.rowMajor_val_two]
    rfl
  · refine gated_eq (fun k => m ((c : Thread nD τ).loc main_arg0) (ix3 b s k)) _ (fun k => ?_)
      (m ((c : Thread nD τ).loc main_arg1)) (m ((c : Thread nD τ).loc main_arg2)) o _ _ _ _ (scale_apply _ o) (scale_apply _ o)
    show V1 m ρ c main_v0 (ix2 ⟨b.val * 128 + s.val, _⟩ (shuffle k)) = _
    rw [V1_v0]
    exact row_apply _ b s (shuffle k)

/-! ## The run -/

set_option backward.isDefEq.respectTransparency.types false in
/-- Every run ends with the arguments as launched and the result in place. -/
theorem run : θ_run (defs (F := Ideal)) (onTc (τ := τ) (main (F := Ideal))) ⟨m, fun _ => 0, ρ⟩ (fun r => ∀ c : Dev nD,
      r.2.mem ((c.tc : Thread nD τ).loc main_v7) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨(h c _ (mem_uc main_v7 (by decide))).trans (final m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.Proof.KernelWhole

end
-- ==== Proof.ReferenceWhole.lean ====
/-
  What the reference leaves in its result: at batch `b`, token `s`, column `o`, the gated projection of that row of `x` on
  column `o` of the words in their order.
-/
module

public import proofs.«01_k».proof.Proof.Gen.ReferenceIdeal.Frame
public import proofs.«01_k».proof.Proof.Gated
public import Idealize.ShloMosaic.Lib.Pipeline.Value

@[expose] public section

set_option maxRecDepth 16384

noncomputable section

namespace Cert.Proof.ReferenceWhole

open Idealize.ShloMosaic Idealize.ShloMosaic.ValueIdx Cert.ReferenceIdeal Cert.ReferenceIdeal.Gen Cert.Proof.Gated
open Idealize.ShloMosaic.TcCoe Idealize.SL.Sem
open scoped BigOperators

/-- The body's one store, element by element. -/
theorem pay_apply (x : S256x14336.Idx → EReal) (wg wu : S3584x4096.Idx → BitVec 32) (sg su : S1x4096.Idx → EReal)
    (i : Fin 256) (o : Fin 4096) :
    k0_pay1 (F := Ideal) wg wu x sg x su (ix2 i o)
      = gated (fun k => x (ix2 i k)) (fun q => wg (ix2 q o)) (fun q => wu (ix2 q o)) (sg (ix2 0 o)) (su (ix2 0 o)) := by
  have dot : ∀ w : S3584x4096.Idx → BitVec 32,
      (matmul (F := Ideal) (φ₁ := .bf16) (φ₂ := .bf16) dot_S256x14336_S14336x4096_S256x4096_1_0_0_1_n_n none x
        (extf .bf16 (bitcastToFloat .fp8e4m3 (bitcast S14336x4096 8 (shapeCast S3584x4096 w shapeCasts_S3584x4096_S3584x4096)
          bitcasts_S3584x4096_w32_S14336x4096_w8) : FVec Ideal S14336x4096 .fp8e4m3) bitsLt_fp8e4m3_bf16)
        (constant S256x4096 .f32 0x00000000#32)) (ix2 i o)
      = ∑ k : Fin 14336, x (ix2 i k) * weight (fun q => w (ix2 q o)) k := fun w => by
    rw [shapeCast_self]
    exact dot_words (φ := .bf16) (M := 256) (N := 4096) (K := 14336) (r := 3584) _ rfl x w _ i o (by omega)
  have scale : ∀ s : S1x4096.Idx → EReal, (broadcastTo S256x4096 s broadcasts_S1x4096_S256x4096) (ix2 i o) = s (ix2 0 o) := fun s =>
    broadcastTo_apply _ _ (ix2 i o) (ix2 0 o) fun a => by
      match a with
      | ⟨0, _⟩ => rfl
      | ⟨1, _⟩ => rfl
  have hg := congrArg₂ (· * ·) (dot wg) (scale sg)
  have hu := congrArg₂ (· * ·) (dot wu) (scale su)
  refine Eq.trans ?_ (congrArg₂ (· * ·) (congrArg₂ (· * ·) hg (congrArg Ideal.logistic hg)) hu)
  simp only [k0_pay1, shapeCast_self]
  rfl

theorem out_apply (x : S256x14336.Idx → EReal) (wg wu : S3584x4096.Idx → BitVec 32) (sg su : S1x4096.Idx → EReal)
    (i : Fin 256) (o : Fin 4096) :
    out0_5 (F := Ideal) x wg wu sg su (ix2 i o)
      = gated (fun k => x (ix2 i k)) (fun q => wg (ix2 q o)) (fun q => wu (ix2 q o)) (sg (ix2 0 o)) (su (ix2 0 o)) := by
  have hz : (![0, 0] : Fin 2 → ℕ) = fun _ => 0 := funext fun a => by match a with | ⟨0, _⟩ => rfl | ⟨1, _⟩ => rfl
  unfold out0_5
  rw [View.canon_unit_zero hz, View.ld_unit_zero (S := S3584x4096) hz, View.ld_unit_zero (S := S3584x4096) hz,
    View.ld_unit_zero (S := S256x14336) hz, View.ld_unit_zero (S := S1x4096) hz, View.ld_unit_zero (S := S1x4096) hz]
  exact pay_apply x wg wu sg su i o

variable (m : (ℓ : Loc nD τ sig) → Buf (Elt Ideal) ℓ) (ρ : Dev nD → PrngReg)

/-- Words laid flat: row `q` is half `q % 2` of group `q / 2`, column `o` lane `o % 128` of block `o / 128`. -/
theorem flat_apply (w : S32x224x2x8x128.Idx → BitVec 32) (q : Fin 3584) (o : Fin 4096) :
    shapeCast S3584x4096 (transpose S224x8x2x32x128 [1, 3, 2, 0, 4] w transposes_S32x224x2x8x128_S224x8x2x32x128_1_3_2_0_4)
      shapeCasts_S224x8x2x32x128_S3584x4096 (ix2 q o) = column w o q := by
  unfold column
  refine (shapeCast_apply _ _ (ix2 q o) (ix5 (⟨q.val / 16, by omega⟩ : Fin 224) (⟨q.val / 2 % 8, by omega⟩ : Fin 8)
    (⟨q.val % 2, by omega⟩ : Fin 2) (⟨o.val / 128, by omega⟩ : Fin 32) (⟨o.val % 128, by omega⟩ : Fin 128)) ?_).trans ?_
  · rw [Shape.rowMajor_val_five, Shape.rowMajor_val_two]
    show (((q.val / 16 * 8 + q.val / 2 % 8) * 2 + q.val % 2) * 32 + o.val / 128) * 128 + o.val % 128 = q.val * 4096 + o.val
    have h : (q.val / 16 * 8 + q.val / 2 % 8) * 2 + q.val % 2 = q.val := by omega
    rw [h]
    omega
  · refine transpose_apply _ _ _ _ _ fun b => ?_
    match b with
    | ⟨0, _⟩ => rfl
    | ⟨1, _⟩ => rfl
    | ⟨2, _⟩ => rfl
    | ⟨3, _⟩ => rfl
    | ⟨4, _⟩ => rfl

/-- A row of the flattened `x`. -/
theorem row_apply (x : S2x128x14336.Idx → EReal) (b : Fin 2) (s : Fin 128) (k : Fin 14336) :
    shapeCast S256x14336 x shapeCasts_S2x128x14336_S256x14336 (ix2 ⟨b.val * 128 + s.val, by omega⟩ k) = x (ix3 b s k) := by
  refine shapeCast_apply _ _ _ _ ?_
  rw [Shape.rowMajor_val_three, Shape.rowMajor_val_two]
  rfl

/-- The scales laid in a row. -/
theorem scale_apply (s : S4096.Idx → EReal) (o : Fin 4096) :
    shapeCast S1x4096 s shapeCasts_S4096_S1x4096 (ix2 0 o) = s (ix1 o) := by
  refine shapeCast_apply _ _ _ _ ?_
  rw [Shape.rowMajor_val_one, Shape.rowMajor_val_two]
  show o.val = 0 * 4096 + o.val
  omega

/-- The arguments as the call finds them. -/
theorem V_x (c : Dev nD) : V m c main_v0
    = shapeCast S256x14336 (m ((c : Thread nD τ).loc main_arg0)) shapeCasts_S2x128x14336_S256x14336 := rfl
theorem V_gate (c : Dev nD) : V m c main_v2 = shapeCast S3584x4096 (transpose S224x8x2x32x128 [1, 3, 2, 0, 4]
    (m ((c : Thread nD τ).loc main_arg1)) transposes_S32x224x2x8x128_S224x8x2x32x128_1_3_2_0_4)
    shapeCasts_S224x8x2x32x128_S3584x4096 := rfl
theorem V_up (c : Dev nD) : V m c main_v4 = shapeCast S3584x4096 (transpose S224x8x2x32x128 [1, 3, 2, 0, 4]
    (m ((c : Thread nD τ).loc main_arg2)) transposes_S32x224x2x8x128_S224x8x2x32x128_1_3_2_0_4)
    shapeCasts_S224x8x2x32x128_S3584x4096 := rfl
theorem V_sg (c : Dev nD) : V m c main_v5
    = shapeCast S1x4096 (m ((c : Thread nD τ).loc main_arg3)) shapeCasts_S4096_S1x4096 := rfl
theorem V_su (c : Dev nD) : V m c main_v6
    = shapeCast S1x4096 (m ((c : Thread nD τ).loc main_arg4)) shapeCasts_S4096_S1x4096 := rfl

/-- The one grid point. -/
def t₀ : Fin cfg0.N := ⟨0, by decide⟩

/-- There every window's block starts at the array's start. -/
theorem index0 : ∀ a, win0_0.index t₀ a = 0 := by decide +kernel
theorem index1 : ∀ a, win0_1.index t₀ a = 0 := by decide +kernel
theorem index2 : ∀ a, win0_2.index t₀ a = 0 := by decide +kernel
theorem index3 : ∀ a, win0_3.index t₀ a = 0 := by decide +kernel
theorem index4 : ∀ a, win0_4.index t₀ a = 0 := by decide +kernel
theorem index5 : ∀ a, win0_5.index t₀ a = 0 := by decide +kernel

/-- The array the call leaves. -/
theorem call (c : Dev nD) (i : Fin 256) (o : Fin 4096) :
    ((dats m 0 c).arrAt 5 cfg0.N : S256x4096.Idx → EReal) (ix2 i o)
      = gated (fun k => V m c main_v0 (ix2 i k)) (fun q => V m c main_v2 (ix2 q o)) (fun q => V m c main_v4 (ix2 q o))
          (V m c main_v5 (ix2 0 o)) (V m c main_v6 (ix2 0 o)) := by
  have hN : ∀ t : Fin cfg0.N, t = t₀ := (by decide +kernel : ∀ t : Fin grid0.N, t = ⟨0, by decide⟩)
  have hb := (dats m 0 c).read_blk_arrAt_eq_flushed 5 (fun t t' _ _ hne => absurd ((hN t).trans (hN t').symm) hne)
    cfg0.N t₀ t₀.isLt (by decide)
  have hf : (dats m 0 c).flushed 5 t₀ = (cfg0.win 5).cut (grid0.coords t₀)
      (out0_5 (iblk m c 0 t₀) (iblk m c 1 t₀) (iblk m c 2 t₀) (iblk m c 3 t₀) (iblk m c 4 t₀)) := by
    show (cfg0.win 5).cut (grid0.coords t₀) ((dats m 0 c).after 5 t₀) = _
    rw [after0_5]
  rw [hf] at hb
  have r0 : iblk m c 0 t₀ = V m c main_v0 := Memref.read_access_unit_zero (Elt Ideal) main_v0
    (funext fun a => (congrArg (· * _) (index0 a)).trans (Nat.zero_mul _)) _ _
  have r1 : iblk m c 1 t₀ = V m c main_v2 := Memref.read_access_unit_zero (Elt Ideal) main_v2
    (funext fun a => (congrArg (· * _) (index1 a)).trans (Nat.zero_mul _)) _ _
  have r2 : iblk m c 2 t₀ = V m c main_v4 := Memref.read_access_unit_zero (Elt Ideal) main_v4
    (funext fun a => (congrArg (· * _) (index2 a)).trans (Nat.zero_mul _)) _ _
  have r3 : iblk m c 3 t₀ = V m c main_v5 := Memref.read_access_unit_zero (Elt Ideal) main_v5
    (funext fun a => (congrArg (· * _) (index3 a)).trans (Nat.zero_mul _)) _ _
  have r4 : iblk m c 4 t₀ = V m c main_v6 := Memref.read_access_unit_zero (Elt Ideal) main_v6
    (funext fun a => (congrArg (· * _) (index4 a)).trans (Nat.zero_mul _)) _ _
  rw [r0, r1, r2, r3, r4] at hb
  have r5 : ((cfg0.win 5).blk t₀).view.read (Elt Ideal) ((dats m 0 c).arrAt 5 cfg0.N) = (dats m 0 c).arrAt 5 cfg0.N :=
    Memref.read_access_unit_zero (Elt Ideal) main_v7 (funext fun a => (congrArg (· * _) (index5 a)).trans (Nat.zero_mul _)) _ _
  rw [r5] at hb
  exact (congrFun hb (ix2 i o)).trans (out_apply _ _ _ _ _ i o)

/-- The result the claim names. -/
abbrev res (c : Dev nD) : S2x128x4096.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4))

/-- The call's result laid back over batches and tokens. -/
theorem final (c : Dev nD) :
    (shapeCast S2x128x4096 ((dats m 0 c).arrAt 5 cfg0.N : S256x4096.Idx → EReal) shapeCasts_S256x4096_S2x128x4096) = res m c := by
  refine funext fun j => ?_
  obtain ⟨b, s, o, rfl⟩ : ∃ (b : Fin 2) (s : Fin 128) (o : Fin 4096), j = ix3 b s o :=
    ⟨j 0, j 1, j 2, by funext a; match a with | ⟨0, _⟩ => rfl | ⟨1, _⟩ => rfl | ⟨2, _⟩ => rfl⟩
  refine (shapeCast_apply _ _ (ix3 b s o) (ix2 ⟨b.val * 128 + s.val, by omega⟩ o) ?_).trans ((call m c _ o).trans ?_)
  · rw [Shape.rowMajor_val_three, Shape.rowMajor_val_two]
    rfl
  · rw [V_x, V_gate, V_up, V_sg, V_su, scale_apply, scale_apply]
    rw [show (fun k => shapeCast S256x14336 (m ((c : Thread nD τ).loc main_arg0)) shapeCasts_S2x128x14336_S256x14336
        (ix2 ⟨b.val * 128 + s.val, by omega⟩ k)) = fun k => m ((c : Thread nD τ).loc main_arg0) (ix3 b s k)
      from funext fun k => row_apply _ b s k]
    exact congrArg₂ (fun g u => gated _ g u _ _) (funext fun q => flat_apply _ q o) (funext fun q => flat_apply _ q o)

/-- What the line after the call leaves in the result. -/
theorem tail (c : Dev nD) : Pipeline.afterTail₀ cfgs (dats m) 0 (V0 m) [hostOps1] c main_v8 = res m c := by
  have e : Pipeline.afterTail₀ cfgs (dats m) 0 (V0 m) [hostOps1] c main_v8
      = shapeCast S2x128x4096 (Pipeline.withArrays (cfgs 0).spec c (V0 m c) (fun w => (dats m 0 c).arrAt w (cfgs 0).N)
          (Proc.devRef .tc main_v7) : S256x4096.Idx → EReal) shapeCasts_S256x4096_S2x128x4096 := rfl
  have e' : Pipeline.withArrays (cfgs 0).spec c (V0 m c) (fun w => (dats m 0 c).arrAt w (cfgs 0).N) (Proc.devRef .tc main_v7)
      = (dats m 0 c).arrAt 5 cfg0.N := Pipeline.withArrays_arr spec0 (by decide) c (V0 m c) _ 5
  rw [e, e']
  exact final m c

/-- Every run ends with the arguments as launched and the result in place. -/
theorem run : θ_run (defs (F := Ideal)) (onTc (τ := τ) (main (F := Ideal))) ⟨m, fun _ => 0, ρ⟩ (fun r => ∀ c : Dev nD,
      r.2.mem ((c.tc : Thread nD τ).loc main_v8) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨h.1 c, h.2 c⟩) (θ_run_and
    ((θ_run defs _ _).mono (fun _ h c => ((h c).2 main_v8 (Pipeline.mem_restRefs_of main_v8 (by decide) (by decide))).trans (tail m c))
      (run_main m ρ) : θ_run (defs (F := Ideal)) (onTc (τ := τ) (main (F := Ideal))) ⟨m, fun _ => 0, ρ⟩ (fun r => ∀ c : Dev nD,
        r.2.mem ((c.tc : Thread nD τ).loc main_v8) = res m c)) (unchanged m ρ))

end Cert.Proof.ReferenceWhole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelWhole
public import proofs.«01_k».proof.Proof.ReferenceWhole
public import Idealize.ShloMosaic.Adequacy
public import Idealize.ShloMosaic.Init

@[expose] public section

noncomputable section

namespace Cert.Proof

open Idealize.ShloMosaic Idealize.SL.Sem Cert.Kernel

/-- From equal arguments the two result arrays are equal. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => KernelWhole.res m c, KernelWhole.run m g, ?_⟩
  refine (θ_run (Cert.ReferenceIdeal.defs (F := Ideal)) _ _).mono (fun r h c => ?_) (ReferenceWhole.run m' g')
  refine ⟨(h c).1.trans ?_, (h c).2⟩
  obtain ⟨h0, h1, h2, h3, h4⟩ := hargs c
  show ReferenceWhole.res m' c = _
  unfold ReferenceWhole.res
  rw [h0, h1, h2, h3, h4]

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, fun m g _ => Cert.ReferenceIdeal.Gen.frame m g,
  trivial, algebraic⟩

end Cert.Proof

end
